-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "four_log2e" .f32 0x40B8AA3B#32 ((4 * (Real.log 2)⁻¹ : ℝ) : EReal)
  ∧ IdealRules.named_const.Statement Cert.KernelIdeal.κ "neg_two_log2e" .f32 0xC038AA3B#32 (((-2) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S8192x256 : Shape := ⟨2, ![8192, 256]⟩
abbrev S_ : Shape := ⟨0, ![]⟩

class Facts : Prop where
  bcast_S_S4096x256 : S_.BroadcastsInDim S4096x256 (![] : Fin 0 → Fin S4096x256.rank)
  bcast_S_S8192x256 : S_.BroadcastsInDim S8192x256 (![] : Fin 0 → Fin S8192x256.rank)

variable [Facts]

def fn {F : FTy → Type} [FloatOps F] (main_arg0 : FVec F S4096x256 .f32) (main_arg1 : FVec F S8192x256 .f32) : IVec S4096x256 1 × IVec S8192x256 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  (main_v2, main_v5)
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S1x8192 : Shape := ⟨2, ![1, 8192]⟩
abbrev S4096x8192 : Shape := ⟨2, ![4096, 8192]⟩
abbrev S512x256 : Shape := ⟨2, ![512, 256]⟩
abbrev S512x8192 : Shape := ⟨2, ![512, 8192]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S4096x8192, .f32⟩
  | .local _ .vmem, ⟨0, _⟩ => ⟨S512x256, .f32⟩
  | .local _ .vmem, ⟨1, _⟩ => ⟨S512x256, .f32⟩
  | .local _ .vmem, ⟨2, _⟩ => ⟨S8192x256, .f32⟩
  | .local _ .vmem, ⟨3, _⟩ => ⟨S1x8192, .f32⟩
  | .local _ .vmem, ⟨4, _⟩ => ⟨S512x8192, .f32⟩
  | .local _ .vmem, ⟨5, _⟩ => ⟨S512x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "four_log2e" => some ((4 * (Real.log 2)⁻¹ : ℝ) : EReal)
  | "neg_two_log2e" => some (((-2) * (Real.log 2)⁻¹ : ℝ) : EReal)
  | _ => none
-- ==== ReferenceIdeal.lean ====
abbrev S4096x256 : Shape := ⟨2, ![4096, 256]⟩
abbrev S8192x256 : Shape := ⟨2, ![8192, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S256x8192 : Shape := ⟨2, ![256, 8192]⟩
abbrev S4096x8192 : Shape := ⟨2, ![4096, 8192]⟩

abbrev nBuf : Space → Nat
  | .hbm => 40
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S256x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096x1, .f32⟩
  | .hbm, ⟨32, _⟩ => ⟨S4096x8192, .f32⟩
  | .hbm, ⟨33, _⟩ => ⟨S4096x8192, .f32⟩
  | .hbm, ⟨34, _⟩ => ⟨S4096x8192, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x8192, .f32⟩
  | .hbm, ⟨39, _⟩ => ⟨S4096x8192, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Soft.lean ====
/-
  The mathematics of the lookup, over the real numbers alone.

  For a query row `q` and codewords `C k`, the lookup weights codeword `k` by the softmax over `k` of
  `-|q - C k|² / (1/2)`. Expanding the square, `-2 |q - C k|² = logit q (C k) - 2 |q|²` with
  `logit q c = 4 q·c - 2 |c|²`, and a term that does not depend on `k` drops out of a softmax. Everything the
  kernel and the reference compute is compared with `weight`, the softmax of `logit`.
-/
module

public import Mathlib.Analysis.SpecialFunctions.Exp
public import Mathlib.Analysis.SpecialFunctions.Pow.Real
public import Mathlib.Algebra.BigOperators.Field
public import Mathlib.Tactic.Ring
public import Mathlib.Tactic.Linarith
public import Mathlib.Tactic.FieldSimp
public import Mathlib.Tactic.Positivity

@[expose] public section

noncomputable section

namespace Cert.Soft

open scoped BigOperators

variable {d K : Nat}

/-- The part of `-|q - c|² / (1/2)` that depends on the codeword: `4 q·c - 2 |c|²`. -/
def logit (q c : Fin d → ℝ) : ℝ := 4 * (∑ l, q l * c l) - 2 * ∑ l, c l * c l

/-- The weight of codeword `k` for the query `q`: the softmax of the logits. -/
def weight (q : Fin d → ℝ) (C : Fin K → Fin d → ℝ) (k : Fin K) : ℝ :=
  Real.exp (logit q (C k)) / ∑ j, Real.exp (logit q (C j))

/-- The expanded squared distance `|q|² + |c|² - 2 q·c` is a sum of squares, so it is not negative: the clamp at
    zero changes nothing. -/
theorem sqdist_nonneg (q c : Fin d → ℝ) :
    0 ≤ (∑ l, q l * q l) + (∑ l, c l * c l) - 2 * ∑ l, q l * c l := by
  have h : (∑ l, q l * q l) + (∑ l, c l * c l) - 2 * ∑ l, q l * c l = ∑ l, (q l - c l) ^ 2 := by
    rw [Finset.mul_sum, ← Finset.sum_add_distrib, ← Finset.sum_sub_distrib]
    exact Finset.sum_congr rfl fun l _ => by ring
  rw [h]
  exact Finset.sum_nonneg fun l _ => sq_nonneg _

/-- The reference's score, `-(|q|² + |c|² - 2 q·c)` divided by one half, is the logit less `2 |q|²`. -/
theorem score_eq (q c : Fin d → ℝ) :
    -((∑ l, q l * q l) + (∑ l, c l * c l) - 2 * ∑ l, q l * c l) / (1 / 2)
      = logit q c - 2 * ∑ l, q l * q l := by
  unfold logit
  ring

/-- The sum of exponentials over at least one codeword is positive. -/
theorem sum_exp_pos (hK : 0 < K) (f : Fin K → ℝ) : 0 < ∑ j, Real.exp (f j) :=
  Finset.sum_pos (fun _ _ => Real.exp_pos _) ⟨⟨0, hK⟩, Finset.mem_univ _⟩

/-- Subtracting one number `s` from every logit leaves the softmax unchanged. -/
theorem weight_shift (q : Fin d → ℝ) (C : Fin K → Fin d → ℝ) (k : Fin K) (s : ℝ) :
    Real.exp (logit q (C k) - s) / ∑ j, Real.exp (logit q (C j) - s) = weight q C k := by
  unfold weight
  simp only [Real.exp_sub]
  rw [← Finset.sum_div, div_div_div_cancel_right₀ (Real.exp_ne_zero s)]

/-- The kernel's exponent, with `4 / log 2` multiplied into the codeword and `-2 / log 2` into its squared norm,
    turns a power of two into the exponential of the logit. -/
theorem two_rpow_eq (q c : Fin d → ℝ) :
    Real.rpow 2 ((∑ l, q l * (c l * (4 * (Real.log 2)⁻¹))) + (∑ l, c l * c l) * (-2 * (Real.log 2)⁻¹))
      = Real.exp (logit q c) := by
  have h2 : Real.log 2 ≠ 0 := (Real.log_pos (by norm_num)).ne'
  have hs : (∑ l, q l * (c l * (4 * (Real.log 2)⁻¹))) = (∑ l, q l * c l) * (4 * (Real.log 2)⁻¹) := by
    rw [Finset.sum_mul]
    exact Finset.sum_congr rfl fun l _ => by ring
  rw [Real.rpow_eq_pow]
  rw [Real.rpow_def_of_pos (by norm_num), hs]
  unfold logit
  congr 1
  field_simp
  ring

end Cert.Soft

end
-- ==== Proof.Lift.lean ====
/-
  The lookup's formulas over the extended reals, at arguments that are real numbers: each is the real number
  the mathematics of `Soft` gives.

  `kernelForm` is what the kernel computes at one entry of its result, `refScore` and `refForm` what the reference
  computes; at real arguments `kernelForm` and `refForm` of `refScore` are both `Soft.weight`.
-/
module

public import Idealize.ShloMosaic.PureOps.Ideal
public import proofs.«01_k».proof.Proof.Soft

@[expose] public section

noncomputable section

namespace Cert.Lift

open Idealize.ShloMosaic
open scoped BigOperators

variable {d K : Nat}

/-- A sum of real numbers, taken over the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many real numbers, at least one of them, started from the least extended real, is a
    real number. -/
theorem fold_max_real {ι : Type} (s : Finset ι) (hs : s.Nonempty) (f : ι → EReal) (hf : ∀ i, ∃ x : ℝ, f i = x) :
    ∃ x : ℝ, s.fold max ⊥ f = x := by
  obtain ⟨i, _, hi⟩ := Finset.exists_mem_eq_sup s hs f
  obtain ⟨x, hx⟩ := hf i
  exact ⟨x, (show s.sup f = x from hi.trans hx)⟩

/-- A real number divided by a nonzero one, over the extended reals, is the real quotient. -/
theorem div_real (x y : ℝ) (hy : y ≠ 0) : Ideal.div (x : EReal) (y : EReal) = ((x / y : ℝ) : EReal) := by
  rw [Ideal.div_coe hy, ← EReal.coe_mul, mul_one_div]

/-- The kernel's exponential for query row `q`, codeword `c` and bias entry `b`. -/
def kernelExp (q c : Fin d → EReal) (b : EReal) : EReal :=
  Ideal.exp2 ((∑ l, q l * (c l * ((4 * (Real.log 2)⁻¹ : ℝ) : EReal))) + b * (((-2) * (Real.log 2)⁻¹ : ℝ) : EReal))

/-- One entry of the kernel's result: the exponential times the reciprocal of the row's sum of exponentials, the
    bias row being the codewords' squared norms. -/
def kernelForm (q : Fin d → EReal) (C : Fin K → Fin d → EReal) (k : Fin K) : EReal :=
  kernelExp q (C k) (∑ l, C k l * C k l) * Ideal.div 1 (∑ j, kernelExp q (C j) (∑ l, C j l * C j l))

/-- The reference's score: minus the clamped expanded squared distance, divided by one half. -/
def refScore (q c : Fin d → EReal) : EReal :=
  Ideal.div (-max ((∑ l, q l * q l) + (∑ l, c l * c l) - ((2 : ℝ) : EReal) * ∑ l, q l * c l) 0) ((1 / 2 : ℝ) : EReal)

/-- One entry of the reference's result from a row of scores and its maximum `M`. -/
def refForm (s : Fin K → EReal) (M : EReal) (k : Fin K) : EReal :=
  Ideal.div (Ideal.exp (s k - M)) (∑ j, Ideal.exp (s j - M))

/-- At real arguments the kernel's exponential is the exponential of the logit. -/
theorem kernelExp_real (q c : Fin d → ℝ) :
    kernelExp (fun l => (q l : EReal)) (fun l => (c l : EReal)) (∑ l, (c l : EReal) * (c l : EReal))
      = (Real.exp (Soft.logit q c) : EReal) := by
  unfold kernelExp
  simp only [← EReal.coe_mul, coe_sum, ← EReal.coe_add, Ideal.exp2_coe]
  rw [Soft.two_rpow_eq]

/-- At real arguments one entry of the kernel's result is the softmax weight. -/
theorem kernelForm_real (hK : 0 < K) (q : Fin d → ℝ) (C : Fin K → Fin d → ℝ) (k : Fin K) :
    kernelForm (fun l => (q l : EReal)) (fun j l => (C j l : EReal)) k = (Soft.weight q C k : EReal) := by
  have hpos := Soft.sum_exp_pos hK fun j => Soft.logit q (C j)
  unfold kernelForm
  simp only [kernelExp_real, coe_sum]
  rw [← EReal.coe_one, div_real _ _ hpos.ne', ← EReal.coe_mul, mul_one_div]
  rfl

/-- At real arguments the reference's score is the logit less twice the query's squared norm. -/
theorem refScore_real (q c : Fin d → ℝ) :
    refScore (fun l => (q l : EReal)) (fun l => (c l : EReal))
      = ((Soft.logit q c - 2 * ∑ l, q l * q l : ℝ) : EReal) := by
  unfold refScore
  simp only [← EReal.coe_mul, coe_sum, ← EReal.coe_add, ← EReal.coe_sub]
  rw [max_eq_left (EReal.coe_nonneg.2 (Soft.sqdist_nonneg q c)), ← EReal.coe_neg, div_real _ _ (by norm_num),
    Soft.score_eq]

/-- At real arguments, whatever real number stands for the maximum, one entry of the reference's result is the
    softmax weight. -/
theorem refForm_real (hK : 0 < K) (q : Fin d → ℝ) (C : Fin K → Fin d → ℝ) (M : ℝ) (k : Fin K) :
    refForm (fun j => refScore (fun l => (q l : EReal)) (fun l => (C j l : EReal))) (M : EReal) k
      = (Soft.weight q C k : EReal) := by
  have hpos := Soft.sum_exp_pos hK fun j => Soft.logit q (C j) - (2 * (∑ l, q l * q l) + M)
  unfold refForm
  simp only [refScore_real, ← EReal.coe_sub, Ideal.exp_coe, coe_sum, sub_sub]
  rw [div_real _ _ hpos.ne', Soft.weight_shift]

end Cert.Lift

end
-- ==== Proof.KernelPay.lean ====
/-
  The kernel body read at one entry: what one grid point computes from its three loaded blocks.
-/
module

public import proofs.«01_k».proof.Proof.Gen.KernelIdeal.Skeleton
public import Idealize.ShloMosaic.Lib.Pointwise
public import Idealize.ShloMosaic.PureOps.IdealRules
public import proofs.«01_k».proof.Proof.Lift

@[expose] public section

noncomputable section

namespace Cert.KernelIdeal.Lookup

open Cert.KernelIdeal Cert.KernelIdeal.Gen Idealize.ShloMosaic Idealize.ShloMosaic.TcCoe
open Idealize.ShloMosaic.Pointwise

/-- The constant the body multiplies into the codewords is `4 / log 2`. -/
theorem four_log2e : Named.named (F := Ideal) κ "four_log2e" (φ := .f32) 0x40B8AA3B#32
    = ((4 * (Real.log 2)⁻¹ : ℝ) : EReal) :=
  IdealRules.named_const.ideal_named_scalar _ _ _ _ rfl

/-- The constant the body multiplies into the bias row is `-2 / log 2`. -/
theorem neg_two_log2e : Named.named (F := Ideal) κ "neg_two_log2e" (φ := .f32) 0xC038AA3B#32
    = (((-2) * (Real.log 2)⁻¹ : ℝ) : EReal) :=
  IdealRules.named_const.ideal_named_scalar _ _ _ _ rfl

set_option maxRecDepth 16384 in
/-- The body's result at row `r`, codeword `k`: the exponential there times the reciprocal of the sum of the row's
    exponentials. -/
theorem pay_apply (q : FVec Ideal S512x256 .f32) (C : FVec Ideal S8192x256 .f32) (b : FVec Ideal S1x8192 .f32)
    (r : Fin 512) (k : Fin 8192) :
    k0_pay1 (F := Ideal) q C b (ix2 r k)
      = Lift.kernelExp (fun l : Fin 256 => q (ix2 r l)) (fun l : Fin 256 => C (ix2 k l)) (b (ix2 0 k))
        * Ideal.div 1 (∑ j : Fin 8192,
            Lift.kernelExp (fun l : Fin 256 => q (ix2 r l)) (fun l : Fin 256 => C (ix2 j l)) (b (ix2 0 j))) := by
  pointwise [k0_pay1]
  rw [four_log2e, neg_two_log2e]
  rfl

end Cert.KernelIdeal.Lookup

end
-- ==== Proof.KernelArray.lean ====
/-
  The kernel's result array after the whole run.

  Each of the eight grid points reads 512 query rows, the whole codebook and the whole row of squared codeword
  norms, and writes 512 rows of the result. Here each block is read back to the arrays it was cut from, what a
  point writes is shown to be its rows of one function `table` of the two arguments, and the eight blocks are
  shown to cover the result.
-/
module

public import proofs.«01_k».proof.Proof.Gen.KernelIdeal.Value
public import Idealize.ShloMosaic.Lib.Pipeline.Value
public import Idealize.ShloMosaic.Lib.StableHlo.Run
public import proofs.«01_k».proof.Proof.KernelPay

@[expose] public section

noncomputable section

namespace Cert.KernelIdeal.Lookup

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (ρ : Dev nD → PrngReg)

/-- Device `c`'s array of queries. -/
abbrev queries (c : Dev nD) : FVec Ideal S4096x256 .f32 := m ((c : Thread nD τ).loc main_arg0)

/-- Device `c`'s codebook. -/
abbrev codebook (c : Dev nD) : FVec Ideal S8192x256 .f32 := m ((c : Thread nD τ).loc main_arg1)

/-- The bias row the host leaves for the kernel on device `c`. -/
abbrev bias (c : Dev nD) : FVec Ideal S1x8192 .f32 := V m c main_v2

/-- The whole result as a function of the two arguments: at query `r` and codeword `k`, `Lift.kernelForm`. -/
def table (Q : FVec Ideal S4096x256 .f32) (C : FVec Ideal S8192x256 .f32) : FVec Ideal S4096x8192 .f32 :=
  fun i => Lift.kernelForm (fun l : Fin 256 => Q (ix2 (i 0) l)) (fun (j : Fin 8192) (l : Fin 256) => C (ix2 j l)) (i 1)

/-- `table` read at query `r` and codeword `k`. -/
theorem table_apply (Q : FVec Ideal S4096x256 .f32) (C : FVec Ideal S8192x256 .f32) (r : Fin 4096) (k : Fin 8192) :
    table Q C (ix2 r k) = Lift.kernelForm (fun l : Fin 256 => Q (ix2 r l)) (fun (j : Fin 8192) (l : Fin 256) => C (ix2 j l)) k :=
  rfl

/-- The offset of a load or store of a whole block is zero on both axes. -/
theorem zero_offset : (![0, 0] : Fin 2 → Nat) = fun _ => 0 := funext fun a => by fin_cases a <;> rfl

/-- The host's bias row holds the codewords' squared norms. -/
theorem bias_apply (c : Dev nD) (k : Fin 8192) :
    bias m c (ix2 0 k)
      = ∑ l : Fin 256, codebook m c (ix2 k l) * codebook m c (ix2 k l) := by
  have h : bias m c = broadcastInDim S1x8192 ![1] bcast_S8192_S1x8192_1
      (Host.reduceAdd (mulf (codebook m c) (codebook m c))
        (constant S_ .f32 0x00000000#32) reducesTo_S8192x256_S8192_d1 h_S_) := by
    show StableHlo.after hostOps0 _ _ = _
    after_results_simp
  rw [h]
  generalize codebook m c = C
  pointwise

/-- The result row that row `r` of point `t`'s block is: `512 t + r`. -/
def row (t : Fin grid0.N) (r : Fin 512) : Fin 4096 :=
  ⟨t.val * 512 + r.val, by have h := t.isLt; have hN : grid0.N = 8 := N_0; omega⟩

/-- The query block moves with the grid point, the codebook and the bias row stay. -/
theorem index_facts : ∀ t : Fin grid0.N, win0_0.index t = ![t.val, 0] ∧ win0_1.index t = ![0, 0]
    ∧ win0_2.index t = ![0, 0] ∧ win0_3.index t = ![t.val, 0] := by
  decide +kernel

/-- The query block of point `t`, at row `r`, is row `512 t + r` of the queries. -/
theorem query_block (c : Dev nD) (t : Fin grid0.N) (r : Fin 512) (l : Fin 256) :
    (iblk m c 0 t : FVec Ideal S512x256 .f32) (ix2 r l)
      = queries m c (ix2 (row t r) l) := by
  have e : (win0_0.rect t).emb (ix2 r l) = ix2 (row t r) l := by
    funext a
    apply Fin.ext
    rw [Pipeline.Window.rect_emb_val win0_0, (index_facts t).1]
    fin_cases a
    · rfl
    · show 0 * 256 + l.val = l.val
      omega
  show (V m c main_arg0 : FVec Ideal S4096x256 .f32) ((win0_0.rect t).emb (ix2 r l)) = _
  rw [e, V_main_arg0]

/-- The codebook block of every point is the codebook. -/
theorem codebook_block (c : Dev nD) (t : Fin grid0.N) (k : Fin 8192) (l : Fin 256) :
    (iblk m c 1 t : FVec Ideal S8192x256 .f32) (ix2 k l)
      = codebook m c (ix2 k l) := by
  have e : (win0_1.rect t).emb (ix2 k l) = ix2 k l := by
    funext a
    apply Fin.ext
    exact Pipeline.Window.rect_emb_val_of_index_zero win0_1 t a
      (by rw [(index_facts t).2.1]; fin_cases a <;> rfl) _
  show (V m c main_arg1 : FVec Ideal S8192x256 .f32) ((win0_1.rect t).emb (ix2 k l)) = _
  rw [e, V_main_arg1]

/-- The bias block of every point holds the codewords' squared norms. -/
theorem bias_block (c : Dev nD) (t : Fin grid0.N) (k : Fin 8192) :
    (iblk m c 2 t : FVec Ideal S1x8192 .f32) (ix2 0 k)
      = ∑ l : Fin 256, codebook m c (ix2 k l) * codebook m c (ix2 k l) := by
  have e : (win0_2.rect t).emb (ix2 0 k) = ix2 0 k := by
    funext a
    apply Fin.ext
    exact Pipeline.Window.rect_emb_val_of_index_zero win0_2 t a
      (by rw [(index_facts t).2.2.1]; fin_cases a <;> rfl) _
  show bias m c ((win0_2.rect t).emb (ix2 0 k)) = _
  rw [e]
  exact bias_apply m c k

/-- What point `t` writes back is its 512 rows of `table`. -/
theorem flushed_eq (c : Dev nD) (t : Fin grid0.N) :
    (dats m 0 c).flushed 3 t = (win0_3.blk t).view.read (Elt Ideal)
      (table (queries m c) (codebook m c)) := by
  rw [Value.flushed3]
  unfold out0_3
  rw [View.canon_unit_zero zero_offset, View.ld_unit_zero zero_offset, View.ld_unit_zero zero_offset,
    View.ld_unit_zero zero_offset]
  funext y
  obtain ⟨r, k, rfl⟩ : ∃ (r : Fin 512) (k : Fin 8192), y = ix2 r k := ⟨y 0, y 1, eq_ix2 y⟩
  have e : (win0_3.rect t).emb (ix2 r k) = ix2 (row t r) k := by
    funext a
    apply Fin.ext
    rw [Pipeline.Window.rect_emb_val win0_3, (index_facts t).2.2.2]
    fin_cases a
    · rfl
    · show 0 * 8192 + k.val = k.val
      omega
  show k0_pay1 (F := Ideal) (iblk m c 0 t) (iblk m c 1 t) (iblk m c 2 t) (ix2 r k)
    = table (queries m c) (codebook m c) ((win0_3.rect t).emb (ix2 r k))
  rw [e, table_apply]
  refine (pay_apply _ _ _ r k).trans ?_
  unfold Lift.kernelForm
  simp only [query_block, codebook_block, bias_block]

/-- Every entry of the result lies in the block of some grid point, which is written back. -/
theorem cover (i : S4096x8192.Idx) :
    ∃ t : Fin cfg0.N, (cfg0.win 3).flush t = true ∧ i ∈ ((cfg0.win 3).blk t).view.set := by
  have h0 : (i 0 : Nat) < 4096 := (i 0).isLt
  have h1 : (i 1 : Nat) < 8192 := (i 1).isLt
  have hN : cfg0.N = 8 := N_0
  have ht : (i 0 : Nat) / 512 < cfg0.N := by omega
  refine ⟨⟨(i 0 : Nat) / 512, ht⟩, flush0_3 _, ?_⟩
  show i ∈ ((View.whole main_v3).slice (win0_3.rect ⟨(i 0 : Nat) / 512, ht⟩)).set
  rw [View.set_slice_whole, Rect.mem_set_unit]
  have hx := (index_facts ⟨(i 0 : Nat) / 512, ht⟩).2.2.2
  intro a
  show win0_3.index _ a * win0_3.size a ≤ (i a : Nat) ∧ (i a : Nat) < win0_3.index _ a * win0_3.size a + win0_3.size a
  rw [hx]
  fin_cases a
  · show (i 0 : Nat) / 512 * 512 ≤ (i 0 : Nat) ∧ (i 0 : Nat) < (i 0 : Nat) / 512 * 512 + 512
    omega
  · show 0 * 8192 ≤ (i 1 : Nat) ∧ (i 1 : Nat) < 0 * 8192 + 8192
    omega

/-- The result array ends holding `table` of the two arguments. -/
theorem final (c : Dev nD) : (dats m 0 c).arrAt 3 cfg0.N
    = table (queries m c) (codebook m c) :=
  (dats m 0 c).arrAt_eq_of_cover 3 _ (fun t _ => flushed_eq m c t) cover

/-- The kernel's run: the result array ends at `table` of the arguments, and the arguments are unchanged. -/
theorem run : θ_run defs (onTc (τ := τ) (main (F := Ideal))) ⟨m, fun _ => 0, ρ⟩ fun r => ∀ c : Dev nD,
      r.2.mem ((c : Thread nD τ).loc main_v3)
        = table (queries m c) (codebook m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Lookup

end
-- ==== Proof.Consts.lean ====
/-
  The float literals of the reference and of the precondition, read as extended reals.
-/
module

public import Idealize.ShloMosaic.PureOps.Ideal
public import Mathlib.Tactic.NormNum

@[expose] public section

noncomputable section

namespace Cert.Consts

open Idealize.ShloMosaic

/-- The pattern of `2.0` denotes two. -/
theorem two : Ideal.ofBits .f32 0x40000000#32 = ((2 : ℝ) : EReal) := by
  simp [Ideal.ofBits, Ideal.ieee, -EReal.coe_mul]; norm_num

/-- The pattern of `0.5` denotes one half. -/
theorem half : Ideal.ofBits .f32 0x3F000000#32 = ((1 / 2 : ℝ) : EReal) := by
  simp [Ideal.ofBits, Ideal.ieee, -EReal.coe_mul]; norm_num

/-- The pattern of the negative infinity denotes the least extended real. -/
theorem negInf : Ideal.ofBits .f32 0xFF800000#32 = (⊥ : EReal) := by
  simp [Ideal.ofBits, Ideal.ieee]

/-- The pattern of the positive infinity denotes the greatest extended real. -/
theorem posInf : Ideal.ofBits .f32 0x7F800000#32 = (⊤ : EReal) := by
  simp [Ideal.ofBits, Ideal.ieee]

end Cert.Consts

end
-- ==== Proof.RefScores.lean ====
/-
  The reference's result read at one entry.

  The reference's composed term is cut into three stages, the scores, the exponentials of the scores less a row
  maximum, and the division by the row's sum, and each stage is read at an index. At arguments whose entries are
  real numbers the result at row `r`, codeword `k` is the softmax weight of `Soft`.
-/
module

public import proofs.«01_k».proof.Proof.Gen.ReferenceIdeal.Run
public import Idealize.ShloMosaic.Lib.Pointwise
public import proofs.«01_k».proof.Proof.Lift
public import proofs.«01_k».proof.Proof.Consts

@[expose] public section

noncomputable section

namespace Cert.ReferenceIdeal.Lookup

open Cert.ReferenceIdeal Cert.ReferenceIdeal.Gen Idealize.ShloMosaic Idealize.ShloMosaic.TcCoe
open Idealize.ShloMosaic.Pointwise

/-- The reference's scores, as the program computes them: minus the clamped squared distances, divided by one half. -/
def scores (Q : FVec Ideal S4096x256 .f32) (C : FVec Ideal S8192x256 .f32) : FVec Ideal S4096x8192 .f32 :=
  Host.divf (Host.negf (maximumf (subf (addf
      (broadcastInDim S4096x8192 ![0, 1] bcast_S4096x1_S4096x8192_0_1 (broadcastInDim S4096x1 ![0] bcast_S4096_S4096x1_0
        (Host.reduceAdd (mulf Q Q) (constant S_ .f32 0x00000000#32) reducesTo_S4096x256_S4096_d1 h_S_)))
      (broadcastInDim S4096x8192 ![0, 1] bcast_S1x8192_S4096x8192_0_1 (broadcastInDim S1x8192 ![1] bcast_S8192_S1x8192_1
        (Host.reduceAdd (mulf C C) (constant S_ .f32 0x00000000#32) reducesTo_S8192x256_S8192_d1 h_S_))))
      (mulf (broadcastInDim S4096x8192 ![] bcast_S_S4096x8192 (constant S_ .f32 0x40000000#32))
        (Host.dotGeneral dot_S4096x256_S256x8192_S4096x8192_1_0_0_1_n_n none Q
          (transpose S256x8192 [1, 0] C transposes_S8192x256_S256x8192_1_0))))
      (broadcastInDim S4096x8192 ![] bcast_S_S4096x8192 (constant S_ .f32 0x00000000#32))))
    (broadcastInDim S4096x8192 ![] bcast_S_S4096x8192 (constant S_ .f32 0x3F000000#32))

/-- The row maxima the reference takes of an array of scores, from the negative infinity. -/
def rowMax (s : FVec Ideal S4096x8192 .f32) : FVec Ideal S4096 .f32 :=
  maximumf (broadcastInDim S4096 ![] bcast_S_S4096 (constant S_ .f32 0xFF800000#32))
    (Host.reduce FloatOps.maximumf s (constant S_ .f32 0xFF800000#32) reducesTo_S4096x8192_S4096_d1 h_S_)

/-- The exponentials of an array of scores, each less its row's entry of `M`. -/
def expShift (s : FVec Ideal S4096x8192 .f32) (M : FVec Ideal S4096 .f32) : FVec Ideal S4096x8192 .f32 :=
  Host.exp (subf s (broadcastInDim S4096x8192 ![0, 1] bcast_S4096x1_S4096x8192_0_1
    (broadcastInDim S4096x1 ![0] bcast_S4096_S4096x1_0 M)))

/-- The reference's normalisation of an array of exponentials: each divided by its row's sum. -/
def normalise (e : FVec Ideal S4096x8192 .f32) : FVec Ideal S4096x8192 .f32 :=
  Host.divf e (broadcastInDim S4096x8192 ![0, 1] bcast_S4096x1_S4096x8192_0_1
    (broadcastInDim S4096x1 ![0] bcast_S4096_S4096x1_0
      (Host.reduceAdd e (constant S_ .f32 0x00000000#32) reducesTo_S4096x8192_S4096_d1 h_S_)))

/-- The softmax of an array of scores, as the reference computes it. -/
def softmax (s : FVec Ideal S4096x8192 .f32) : FVec Ideal S4096x8192 .f32 := normalise (expShift s (rowMax s))

/-- The reference's result is the softmax of the scores of its two arguments. -/
theorem res_eq (m : (ℓ : Loc nD τ sig) → Buf (Elt Ideal) ℓ) (c : Dev nD) :
    Cert.ReferenceIdeal.Value.res_out0 m c
      = softmax (scores (m ((c : Thread nD τ).loc main_arg0)) (m ((c : Thread nD τ).loc main_arg1))) := by
  unfold Cert.ReferenceIdeal.Value.res_out0 Cert.ReferenceIdeal.Value.res_main_v29 softmax normalise expShift rowMax scores
  rfl

set_option maxRecDepth 16384 in
/-- A score at query `r` and codeword `k` is `Lift.refScore` of the query's row and the codeword's. -/
theorem scores_apply (Q : FVec Ideal S4096x256 .f32) (C : FVec Ideal S8192x256 .f32) (r : Fin 4096) (k : Fin 8192) :
    scores Q C (ix2 r k) = Lift.refScore (fun l : Fin 256 => Q (ix2 r l)) (fun l : Fin 256 => C (ix2 k l)) := by
  pointwise [scores]
  rw [Consts.two, Consts.half]
  rfl

set_option maxRecDepth 16384 in
/-- A shifted exponential at one entry: the score less the row's entry of `M`, exponentiated. -/
theorem expShift_apply (s : FVec Ideal S4096x8192 .f32) (M : FVec Ideal S4096 .f32) (r : Fin 4096) (k : Fin 8192) :
    expShift s M (ix2 r k) = Ideal.exp (s (ix2 r k) - M (ix1 r)) := by
  pointwise [expShift]

set_option maxRecDepth 16384 in
/-- A normalised entry: the entry divided by its row's sum. -/
theorem normalise_apply (e : FVec Ideal S4096x8192 .f32) (r : Fin 4096) (k : Fin 8192) :
    normalise e (ix2 r k) = Ideal.div (e (ix2 r k)) (∑ j : Fin 8192, e (ix2 r j)) := by
  pointwise [normalise]

/-- A maximum over one axis that starts from the negative infinity, at entries that are real numbers along an axis
    that is not empty, is a real number. Stated at any shapes. -/
theorem reduce_max_real {s t u : Shape} {a : Fin s.rank} (x : FVec Ideal s .f32) (init : FVec Ideal u .f32)
    (h' : s.ReducesTo [a] t) (h : s.Reduces [a] t) (hu : 0 < u.numel) (j : t.Idx) (hn : 0 < s.size a)
    (hi : ∀ i, init i = (⊥ : EReal)) (hx : ∀ i, ∃ y : ℝ, x i = (y : EReal)) :
    ∃ y : ℝ, Host.reduce FloatOps.maximumf x init h' hu j = (y : EReal) := by
  obtain ⟨y, hy⟩ := Lift.fold_max_real (Finset.univ : Finset (Fin (s.size a))) ⟨⟨0, hn⟩, Finset.mem_univ _⟩
    (x ∘ h.lift j) (fun k => hx _)
  refine ⟨y, ?_⟩
  rw [Host.reduce_eq_fold_single _ x init h' h hu j, hi]
  exact hy

/-- Where every score is a real number, so is every row maximum. -/
theorem rowMax_real (s : FVec Ideal S4096x8192 .f32) (hs : ∀ i, ∃ x : ℝ, s i = (x : EReal)) (j : S4096.Idx) :
    ∃ x : ℝ, rowMax s j = (x : EReal) := by
  have hr : S4096x8192.Reduces [1] S4096 := by decide
  obtain ⟨x, hx⟩ := reduce_max_real s (constant S_ .f32 0xFF800000#32) reducesTo_S4096x8192_S4096_d1 hr h_S_ j
    (by decide) (fun _ => Consts.negInf) hs
  refine ⟨x, ?_⟩
  unfold rowMax
  rw [maximumf_apply, hx]
  have hb : broadcastInDim S4096 ![] bcast_S_S4096 (constant (F := Ideal) S_ .f32 0xFF800000#32) j = (⊥ : EReal) :=
    Consts.negInf
  rw [hb]
  exact max_eq_right bot_le

/-- The reference's result at query `r` and codeword `k`, where the entries of both arguments are real numbers:
    the softmax weight. -/
theorem softmax_apply (Q : FVec Ideal S4096x256 .f32) (C : FVec Ideal S8192x256 .f32)
    (q : Fin 4096 → Fin 256 → ℝ) (c : Fin 8192 → Fin 256 → ℝ)
    (hq : ∀ r l, Q (ix2 r l) = (q r l : EReal)) (hc : ∀ k l, C (ix2 k l) = (c k l : EReal))
    (r : Fin 4096) (k : Fin 8192) :
    softmax (scores Q C) (ix2 r k) = (Soft.weight (q r) c k : EReal) := by
  have hs (r : Fin 4096) (k : Fin 8192) : scores Q C (ix2 r k)
      = Lift.refScore (fun l => (q r l : EReal)) (fun l => (c k l : EReal)) := by
    rw [scores_apply]
    exact congrArg₂ Lift.refScore (funext fun l => hq r l) (funext fun l => hc k l)
  obtain ⟨M, hM⟩ := rowMax_real (scores Q C)
    (fun i => ⟨_, (congrArg (scores Q C) (eq_ix2 i)).trans ((hs (i 0) (i 1)).trans (Lift.refScore_real _ _))⟩) (ix1 r)
  unfold softmax
  rw [normalise_apply]
  simp only [expShift_apply, hs, hM]
  exact Lift.refForm_real (by norm_num) (q r) c M k

end Cert.ReferenceIdeal.Lookup

end
-- ==== Proof.Finite.lean ====
/-
  The precondition: both arguments hold real numbers only.
-/
module

public import proofs.«01_k».proof.Proof.Gen.Pre_finite
public import Idealize.ShloMosaic.Lib.Pointwise
public import proofs.«01_k».proof.Proof.Consts

@[expose] public section

noncomputable section

namespace Cert.Pre_finite.Lookup

open Cert.Pre_finite Cert.Pre_finite.Gen Idealize.ShloMosaic
open Idealize.ShloMosaic.Pointwise

/-- An extended real whose absolute value compares below the infinity is a real number. -/
theorem real_of_abs_lt (x : EReal) (h : Ideal.cmp .olt (max x (-x)) ⊤ = 1#1) : ∃ y : ℝ, x = (y : EReal) := by
  induction x using EReal.rec with
  | bot => simp [Ideal.cmp] at h
  | coe y => exact ⟨y, rfl⟩
  | top => simp [Ideal.cmp] at h

/-- Where the precondition's two masks are all ones, every entry of the first argument and every entry of the
    second is a real number. -/
theorem real_of_finite (Q : FVec Ideal S4096x256 .f32) (C : FVec Ideal S8192x256 .f32)
    (h : (fn Q C).1 = (fun _ => 1#1) ∧ (fn Q C).2 = (fun _ => 1#1)) :
    (∀ i, ∃ y : ℝ, Q i = (y : EReal)) ∧ (∀ i, ∃ y : ℝ, C i = (y : EReal)) := by
  constructor
  · intro i
    have hi := congrFun h.1 i
    change Ideal.cmp .olt (max (Q i) (-(Q i))) (Ideal.ofBits .f32 0x7F800000#32) = 1#1 at hi
    rw [Consts.posInf] at hi
    exact real_of_abs_lt _ hi
  · intro i
    have hi := congrFun h.2 i
    change Ideal.cmp .olt (max (C i) (-(C i))) (Ideal.ofBits .f32 0x7F800000#32) = 1#1 at hi
    rw [Consts.posInf] at hi
    exact real_of_abs_lt _ hi

end Cert.Pre_finite.Lookup

end
-- ==== Proof.lean ====
/-
  The proof of `Cert.Claim` for the soft codebook lookup: every program runs and leaves its arguments unchanged, the
  two named constants are the numbers their patterns round, and at finite arguments the kernel's result is the
  reference's, entry by entry, over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KernelArray
public import proofs.«01_k».proof.Proof.RefScores
public import proofs.«01_k».proof.Proof.Finite
public import Idealize.ShloMosaic.Lib.Quiescent

@[expose] public section

noncomputable section

namespace Cert.Proof

open Idealize.ShloMosaic Idealize.ShloMosaic.TcCoe Idealize.SL.Sem
open Idealize.ShloMosaic.Pointwise

/-- The reference runs, leaves its arguments unchanged, and declares no semaphore that could end nonzero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The two rewrites of the idealisation: each named constant is given its number over the extended reals and its
    pattern among the machine's words. -/
theorem preserves : Cert.preserves_Kernel_KernelIdeal :=
  ⟨IdealRules.named_const.statement Cert.KernelIdeal.κ "four_log2e" .f32 0x40B8AA3B#32 _ rfl,
    IdealRules.named_const.statement Cert.KernelIdeal.κ "neg_two_log2e" .f32 0xC038AA3B#32 _ rfl⟩

/-- At arguments whose entries are real numbers the reference's result is the kernel's. -/
theorem softmax_eq_table (Q : FVec Ideal Cert.KernelIdeal.S4096x256 .f32) (C : FVec Ideal Cert.KernelIdeal.S8192x256 .f32)
    (hQ : ∀ i, ∃ y : ℝ, Q i = (y : EReal)) (hC : ∀ i, ∃ y : ℝ, C i = (y : EReal)) :
    Cert.ReferenceIdeal.Lookup.softmax (Cert.ReferenceIdeal.Lookup.scores Q C) = Cert.KernelIdeal.Lookup.table Q C := by
  choose q hq using hQ
  choose e he using hC
  funext i
  obtain ⟨r, k, rfl⟩ : ∃ (r : Fin 4096) (k : Fin 8192), i = ix2 r k := ⟨i 0, i 1, eq_ix2 i⟩
  rw [Cert.ReferenceIdeal.Lookup.softmax_apply Q C (fun r l => q (ix2 r l)) (fun j l => e (ix2 j l))
      (fun r l => hq _) (fun j l => he _) r k, Cert.KernelIdeal.Lookup.table_apply]
  simp only [hq, he]
  exact (Lift.kernelForm_real (by norm_num) (fun l : Fin 256 => q (ix2 r l)) (fun (j : Fin 8192) l => e (ix2 j l)) k).symm

/-- From memories that agree on the two arguments, both finite, the kernel's run and the reference's run end with
    equal results and unchanged arguments. -/
theorem algebraic : Cert.algebraic_KernelIdeal_ReferenceIdeal_pre_finite := by
  intro m ρ m' ρ' hpre hagree
  refine ⟨fun c => Cert.KernelIdeal.Lookup.table (Cert.KernelIdeal.Lookup.queries m c)
    (Cert.KernelIdeal.Lookup.codebook m c), Cert.KernelIdeal.Lookup.run m ρ, ?_⟩
  refine (θ_run Cert.ReferenceIdeal.defs _ _).mono (fun r h c => ⟨(h c).1.trans ?_, (h c).2⟩)
    (Cert.ReferenceIdeal.Value.run (F := Ideal) m' ρ')
  have hreal := Cert.Pre_finite.Lookup.real_of_finite _ _ (hpre c)
  refine (Cert.ReferenceIdeal.Lookup.res_eq m' c).trans ?_
  rw [(hagree c).1, (hagree c).2]
  exact softmax_eq_table _ _ hreal.1 hreal.2

/-- The certificate's claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    preserves, algebraic⟩

end Cert.Proof

end
